-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x50x200x128 : Shape := ⟨4, ![32, 50, 200, 128]⟩
abbrev S50x128 : Shape := ⟨2, ![50, 128]⟩
abbrev S500x128 : Shape := ⟨2, ![500, 128]⟩
abbrev S1x50x200x128 : Shape := ⟨4, ![1, 50, 200, 128]⟩
abbrev S200x128 : Shape := ⟨2, ![200, 128]⟩
abbrev S1x50x1x128 : Shape := ⟨4, ![1, 50, 1, 128]⟩
abbrev S1x1x200x128 : Shape := ⟨4, ![1, 1, 200, 128]⟩

abbrev nBuf : Space → Nat
  | .hbm => 4
  | .vmem => 6
  | .smem => 0
  | _ => 0

abbrev bufTy : (tb : Table) → Fin (tcTables nBuf tb) → BufTy
  | .hbm, ⟨0, _⟩ => ⟨S32x50x200x128, .f32⟩
  | .hbm, ⟨1, _⟩ => ⟨S50x128, .f32⟩
  | .hbm, ⟨2, _⟩ => ⟨S500x128, .f32⟩
  | .hbm, ⟨3, _⟩ => ⟨S32x50x200x128, .f32⟩
  | .local _ .vmem, ⟨0, _⟩ => ⟨S1x50x200x128, .f32⟩
  | .local _ .vmem, ⟨1, _⟩ => ⟨S1x50x200x128, .f32⟩
  | .local _ .vmem, ⟨2, _⟩ => ⟨S50x128, .f32⟩
  | .local _ .vmem, ⟨3, _⟩ => ⟨S200x128, .f32⟩
  | .local _ .vmem, ⟨4, _⟩ => ⟨S1x50x200x128, .f32⟩
  | .local _ .vmem, ⟨5, _⟩ => ⟨S1x50x200x128, .f32⟩
  | _, _ => ⟨S32x50x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x50x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x50x200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x50x200x128 : Shape := ⟨4, ![32, 50, 200, 128]⟩
abbrev S50x128 : Shape := ⟨2, ![50, 128]⟩
abbrev S500x128 : Shape := ⟨2, ![500, 128]⟩
abbrev S50 : Shape := ⟨1, ![50]⟩
abbrev S1x50 : Shape := ⟨2, ![1, 50]⟩
abbrev S32x50 : Shape := ⟨2, ![32, 50]⟩
abbrev S200 : Shape := ⟨1, ![200]⟩
abbrev S_ : Shape := ⟨0, ![]⟩
abbrev S32x50x1 : Shape := ⟨3, ![32, 50, 1]⟩
abbrev S1 : Shape := ⟨1, ![1]⟩
abbrev S1x1x1 : Shape := ⟨3, ![1, 1, 1]⟩
abbrev S32x50x128 : Shape := ⟨3, ![32, 50, 128]⟩
abbrev S200x1 : Shape := ⟨2, ![200, 1]⟩
abbrev S1x1 : Shape := ⟨2, ![1, 1]⟩
abbrev S200x128 : Shape := ⟨2, ![200, 128]⟩
abbrev S32x50x1x128 : Shape := ⟨4, ![32, 50, 1, 128]⟩
abbrev S1x1x200x128 : Shape := ⟨4, ![1, 1, 200, 128]⟩

abbrev nBuf : Space → Nat
  | .hbm => 59
  | .vmem => 0
  | .smem => 0
  | _ => 0

abbrev bufTy : (tb : Table) → Fin (tcTables nBuf tb) → BufTy
  | .hbm, ⟨0, _⟩ => ⟨S32x50x200x128, .f32⟩
  | .hbm, ⟨1, _⟩ => ⟨S50x128, .f32⟩
  | .hbm, ⟨2, _⟩ => ⟨S500x128, .f32⟩
  | .hbm, ⟨3, _⟩ => ⟨S50, .i32⟩
  | .hbm, ⟨4, _⟩ => ⟨S1x50, .i32⟩
  | .hbm, ⟨5, _⟩ => ⟨S32x50, .i32⟩
  | .hbm, ⟨6, _⟩ => ⟨S200, .i32⟩
  | .hbm, ⟨7, _⟩ => ⟨S_, .i32⟩
  | .hbm, ⟨8, _⟩ => ⟨S32x50, .i32⟩
  | .hbm, ⟨9, _⟩ => ⟨S32x50, .i1⟩
  | .hbm, ⟨10, _⟩ => ⟨S_, .i32⟩
  | .hbm, ⟨11, _⟩ => ⟨S32x50, .i32⟩
  | .hbm, ⟨12, _⟩ => ⟨S32x50, .i32⟩
  | .hbm, ⟨13, _⟩ => ⟨S32x50, .i32⟩
  | .hbm, ⟨14, _⟩ => ⟨S32x50x1, .i32⟩
  | .hbm, ⟨15, _⟩ => ⟨S1, .i32⟩
  | .hbm, ⟨16, _⟩ => ⟨S_, .i32⟩
  | .hbm, ⟨17, _⟩ => ⟨S32x50x1, .i32⟩
  | .hbm, ⟨18, _⟩ => ⟨S32x50x1, .i1⟩
  | .hbm, ⟨19, _⟩ => ⟨S1x1x1, .i32⟩
  | .hbm, ⟨20, _⟩ => ⟨S32x50x1, .i32⟩
  | .hbm, ⟨21, _⟩ => ⟨S32x50x1, .i1⟩
  | .hbm, ⟨22, _⟩ => ⟨S32x50x1, .i1⟩
  | .hbm, ⟨23, _⟩ => ⟨S_, .i1⟩
  | .hbm, ⟨24, _⟩ => ⟨S32x50, .i1⟩
  | .hbm, ⟨25, _⟩ => ⟨S32x50x128, .f32⟩
  | .hbm, ⟨26, _⟩ => ⟨S32x50x128, .i1⟩
  | .hbm, ⟨27, _⟩ => ⟨S_, .f32⟩
  | .hbm, ⟨28, _⟩ => ⟨S32x50x128, .f32⟩
  | .hbm, ⟨29, _⟩ => ⟨S32x50x128, .f32⟩
  | .hbm, ⟨30, _⟩ => ⟨S_, .i32⟩
  | .hbm, ⟨31, _⟩ => ⟨S200, .i32⟩
  | .hbm, ⟨32, _⟩ => ⟨S200, .i1⟩
  | .hbm, ⟨33, _⟩ => ⟨S_, .i32⟩
  | .hbm, ⟨34, _⟩ => ⟨S200, .i32⟩
  | .hbm, ⟨35, _⟩ => ⟨S200, .i32⟩
  | .hbm, ⟨36, _⟩ => ⟨S200, .i32⟩
  | .hbm, ⟨37, _⟩ => ⟨S200x1, .i32⟩
  | .hbm, ⟨38, _⟩ => ⟨S1, .i32⟩
  | .hbm, ⟨39, _⟩ => ⟨S_, .i32⟩
  | .hbm, ⟨40, _⟩ => ⟨S200x1, .i32⟩
  | .hbm, ⟨41, _⟩ => ⟨S200x1, .i1⟩
  | .hbm, ⟨42, _⟩ => ⟨S1x1, .i32⟩
  | .hbm, ⟨43, _⟩ => ⟨S200x1, .i32⟩
  | .hbm, ⟨44, _⟩ => ⟨S200x1, .i1⟩
  | .hbm, ⟨45, _⟩ => ⟨S200x1, .i1⟩
  | .hbm, ⟨46, _⟩ => ⟨S_, .i1⟩
  | .hbm, ⟨47, _⟩ => ⟨S200, .i1⟩
  | .hbm, ⟨48, _⟩ => ⟨S200x128, .f32⟩
  | .hbm, ⟨49, _⟩ => ⟨S200x128, .i1⟩
  | .hbm, ⟨50, _⟩ => ⟨S_, .f32⟩
  | .hbm, ⟨51, _⟩ => ⟨S200x128, .f32⟩
  | .hbm, ⟨52, _⟩ => ⟨S200x128, .f32⟩
  | .hbm, ⟨53, _⟩ => ⟨S32x50x1x128, .f32⟩
  | .hbm, ⟨54, _⟩ => ⟨S1x1x200x128, .f32⟩
  | .hbm, ⟨55, _⟩ => ⟨S32x50x200x128, .f32⟩
  | .hbm, ⟨56, _⟩ => ⟨S32x50x200x128, .f32⟩
  | .hbm, ⟨57, _⟩ => ⟨S32x50x200x128, .f32⟩
  | .hbm, ⟨58, _⟩ => ⟨S32x50x200x128, .f32⟩
  | _, _ => ⟨S32x50x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩

abbrev nD : Nat := 1
abbrev τ : Topo := Topo.v7x

variable {F : FTy → Type} [FloatOps F]
-- ==== Proof.Spec.lean ====
/-
  What the embedding step computes, as one function of the three arrays: element `(b, w, t, h)` of the result is
  `x[b, w, t, h] + word[w, h] + time[t, h]`. The kernel's value and the reference's value are both stated by it.
-/
module

public import Idealize.ShloMosaic.Lib.ValueIdx

@[expose] public section

noncomputable section

namespace Cert.Embedding

open Idealize.ShloMosaic Idealize.ShloMosaic.ValueIdx

variable {F : FTy → Type} [FloatOps F]

/-- `x[b, w, t, h] + word[w, h] + time[t, h]`, the two additions in this order; of the 500 rows of `time` the first 200 are read. -/
def posSum (x : FVec F ⟨4, ![32, 50, 200, 128]⟩ .f32) (word : FVec F ⟨2, ![50, 128]⟩ .f32) (time : FVec F ⟨2, ![500, 128]⟩ .f32) :
    FVec F ⟨4, ![32, 50, 200, 128]⟩ .f32 :=
  fun i => FloatOps.addf (FloatOps.addf (x i) (word (ix2 (i 1) (i 3))))
    (time (ix2 ⟨(i 2).val, Nat.lt_of_lt_of_le (i 2).isLt (by decide)⟩ (i 3)))

end Cert.Embedding

end
-- ==== Proof.KernelValue.lean ====
/-
  The tiled kernel's result array is `posSum` of its arguments: grid point `t` writes batch entry `t` whole, the payload
  of its one store is the block of `posSum`, and the 32 blocks fill the array.
-/
module

public import proofs.«01_k».proof.Proof.Spec
public import proofs.«01_k».proof.Proof.Gen.KernelIdeal.Value
public import Idealize.ShloMosaic.Lib.Pipeline.ValueKit.Acc
public import Idealize.ShloMosaic.Lib.Pointwise

@[expose] public section

noncomputable section

namespace Cert.KernelIdeal.Sums

open Cert.KernelIdeal Cert.KernelIdeal.Gen Cert.Embedding
open Idealize.ShloMosaic hiding ix2 ix4
open Idealize.ShloMosaic.TcCoe Idealize.ShloMosaic.ValueIdx Idealize.SL.Sem
open Idealize.ShloMosaic.Pipeline (Dat)

variable {F : FTy → Type} [FloatOps F]

/-- The word table viewed with unit axes for batch and time, read at word `r` and column `h`. -/
theorem word_cast (word : Vec F S50x128 .f32) (r : Fin 50) (h : Fin 128) :
    shapeCast S1x50x1x128 word shapeCasts_S50x128_S1x50x1x128 (ix4 0 r 0 h) = word (ix2 r h) := by
  refine shapeCast_apply _ _ _ _ ?_
  rw [Shape.rowMajor_val_two, Shape.rowMajor_val_four]
  show r.val * 128 + h.val = ((0 * 50 + r.val) * 1 + 0) * 128 + h.val
  omega

/-- The staged time rows viewed with unit axes for batch and word, read at time `r` and column `h`. -/
theorem time_cast (time : Vec F S200x128 .f32) (r : Fin 200) (h : Fin 128) :
    shapeCast S1x1x200x128 time shapeCasts_S200x128_S1x1x200x128 (ix4 0 0 r h) = time (ix2 r h) := by
  refine shapeCast_apply _ _ _ _ ?_
  rw [Shape.rowMajor_val_two, Shape.rowMajor_val_four]
  show r.val * 128 + h.val = ((0 * 1 + 0) * 200 + r.val) * 128 + h.val
  omega

/-- What the body stores, read at an index of the block: the staged `x` there, plus the word row's element, plus the
    time row's element. -/
theorem payload_apply (x : Vec F S1x50x200x128 .f32) (word : Vec F S50x128 .f32) (time : Vec F S200x128 .f32) (j : S1x50x200x128.Idx) :
    k0_pay1 x word time j
      = FloatOps.addf (FloatOps.addf (x j) (word (ix2 (j 1) (j 3)))) (time (ix2 (j 2) (j 3))) := by
  have hw : broadcastTo S1x50x200x128 (shapeCast S1x50x1x128 word shapeCasts_S50x128_S1x50x1x128) broadcasts_S1x50x1x128_S1x50x200x128 j
      = word (ix2 (j 1) (j 3)) := by
    refine (broadcastTo_apply _ _ j (ix4 0 (j 1) 0 (j 3)) fun a => ?_).trans (word_cast word (j 1) (j 3))
    match a with | ⟨0, _⟩ => rfl | ⟨1, _⟩ => rfl | ⟨2, _⟩ => rfl | ⟨3, _⟩ => rfl
  have ht : broadcastTo S1x50x200x128 (shapeCast S1x1x200x128 time shapeCasts_S200x128_S1x1x200x128) broadcasts_S1x1x200x128_S1x50x200x128 j
      = time (ix2 (j 2) (j 3)) := by
    refine (broadcastTo_apply _ _ j (ix4 0 0 (j 2) (j 3)) fun a => ?_).trans (time_cast time (j 2) (j 3))
    match a with | ⟨0, _⟩ => rfl | ⟨1, _⟩ => rfl | ⟨2, _⟩ => rfl | ⟨3, _⟩ => rfl
  show FloatOps.addf (FloatOps.addf (x j) (broadcastTo S1x50x200x128 (shapeCast S1x50x1x128 word shapeCasts_S50x128_S1x50x1x128) broadcasts_S1x50x1x128_S1x50x200x128 j))
    (broadcastTo S1x50x200x128 (shapeCast S1x1x200x128 time shapeCasts_S200x128_S1x1x200x128) broadcasts_S1x1x200x128_S1x50x200x128 j) = _
  rw [hw, ht]

variable (m : (ℓ : Loc nD τ sig) → Buf (Elt F) ℓ) (ρ : Dev nD → PrngReg)

/-- `posSum` of device `c`'s three argument arrays. -/
abbrev total (c : Dev nD) : Buf (Elt F) ((c : Thread nD τ).loc main_v0) :=
  posSum (m ((c : Thread nD τ).loc main_arg0)) (m ((c : Thread nD τ).loc main_arg1)) (m ((c : Thread nD τ).loc main_arg2))

/-- The result's block at point `t` starts at batch entry `t` and at zero on the other axes. -/
theorem index_out : ∀ t : Fin grid0.N, win0_3.index t 0 = t.val ∧ win0_3.index t 1 = 0 ∧ win0_3.index t 2 = 0 ∧ win0_3.index t 3 = 0 := by
  decide +kernel

/-- The word table's block starts at row 0 and column 0 at every point. -/
theorem index_word : ∀ (t : Fin grid0.N) (a : Fin 2), win0_1.index t a = 0 := by decide +kernel

/-- So does the time table's. -/
theorem index_time : ∀ (t : Fin grid0.N) (a : Fin 2), win0_2.index t a = 0 := by decide +kernel

/-- The staged word table is the word table. -/
theorem word_block (c : Dev nD) (t : Fin cfg0.N) (r : Fin 50) (h : Fin 128) :
    iblk m c 1 t (ix2 r h) = m ((c : Thread nD τ).loc main_arg1) (ix2 r h) := by
  show m ((c : Thread nD τ).loc main_arg1) ((win0_1.rect t).emb (ix2 r h)) = _
  refine congrArg (m ((c : Thread nD τ).loc main_arg1)) (funext fun a => Fin.ext ?_)
  rw [win0_1.rect_emb_val_of_index_zero t a (index_word t a)]

/-- The staged time rows are the first 200 rows of the time table. -/
theorem time_block (c : Dev nD) (t : Fin cfg0.N) (r : Fin 200) (h : Fin 128) :
    X0_2 m c t (ix2 r h) = m ((c : Thread nD τ).loc main_arg2) (ix2 ⟨r.val, Nat.lt_of_lt_of_le r.isLt (by decide)⟩ h) := by
  unfold X0_2 Pipeline.Window.fill
  rw [dif_pos (moved0_2 t _)]
  show m ((c : Thread nD τ).loc main_arg2) ((win0_2.rect t).emb _) = _
  refine congrArg (m ((c : Thread nD τ).loc main_arg2)) (funext fun a => Fin.ext ?_)
  rw [win0_2.rect_emb_val_of_index_zero t a (index_time t a)]
  match a with | ⟨0, _⟩ => rfl | ⟨1, _⟩ => rfl

/-- What point `t` writes back is block `t` of `posSum`. -/
theorem flushed_eq (c : Dev nD) (t : Fin cfg0.N) :
    (dats m 0 c).flushed 3 t = (win0_3.blk t).view.read (Elt F) (total m c) := by
  rw [Value.flushed3_A]
  frame_out
  funext y
  obtain ⟨-, h1, h2, h3⟩ := index_out t
  have e1 : ((win0_3.rect t).emb y 1 : Nat) = y 1 := win0_3.rect_emb_val_of_index_zero t 1 h1 y
  have e2 : ((win0_3.rect t).emb y 2 : Nat) = y 2 := win0_3.rect_emb_val_of_index_zero t 2 h2 y
  have e3 : ((win0_3.rect t).emb y 3 : Nat) = y 3 := win0_3.rect_emb_val_of_index_zero t 3 h3 y
  show k0_pay1 (iblk m c 0 t) (iblk m c 1 t) (X0_2 m c t) y = posSum _ _ _ ((win0_3.rect t).emb y)
  rw [payload_apply]
  refine congrArg₂ FloatOps.addf (congrArg₂ FloatOps.addf rfl ((word_block m c t (y 1) (y 3)).trans (congrArg _ ?_)))
    ((time_block m c t (y 2) (y 3)).trans (congrArg _ ?_))
  · exact Shape.idx_ext₂ e1.symm e3.symm
  · exact Shape.idx_ext₂ e2.symm e3.symm

/-- Every index of the result lies in the block of the point that its batch coordinate names. -/
theorem cover (i : S32x50x200x128.Idx) :
    ∃ t : Fin cfg0.N, (cfg0.win 3).flush t = true ∧ i ∈ ((cfg0.win 3).blk t).view.set := by
  have h0 : (i 0 : Nat) < 32 := (i 0).isLt
  have hN : cfg0.N = 32 := N_0
  obtain ⟨t, ht⟩ : ∃ t : Fin cfg0.N, t.val = (i 0).val := ⟨⟨(i 0).val, by omega⟩, rfl⟩
  refine ⟨t, flush0_3 _, ?_⟩
  show i ∈ ((View.whole main_v0).slice (win0_3.rect t)).set
  rw [View.set_slice_whole, win0_3.mem_rect_iff t i]
  obtain ⟨e0, e1, e2, e3⟩ := index_out t
  intro a
  match a with
  | ⟨0, _⟩ =>
    show win0_3.index t 0 * 1 ≤ (i 0).val ∧ (i 0).val < win0_3.index t 0 * 1 + 1
    rw [e0]; omega
  | ⟨1, _⟩ =>
    show win0_3.index t 1 * 50 ≤ (i 1).val ∧ (i 1).val < win0_3.index t 1 * 50 + 50
    have : (i 1).val < 50 := (i 1).isLt
    rw [e1]; omega
  | ⟨2, _⟩ =>
    show win0_3.index t 2 * 200 ≤ (i 2).val ∧ (i 2).val < win0_3.index t 2 * 200 + 200
    have : (i 2).val < 200 := (i 2).isLt
    rw [e2]; omega
  | ⟨3, _⟩ =>
    show win0_3.index t 3 * 128 ≤ (i 3).val ∧ (i 3).val < win0_3.index t 3 * 128 + 128
    have : (i 3).val < 128 := (i 3).isLt
    rw [e3]; omega

/-- The kernel's run: the result array ends at `posSum` of the arguments, which are unchanged. -/
theorem run : θ_run defs (onTc (τ := τ) (main (F := F))) ⟨m, fun _ => 0, ρ⟩ fun r => ∀ c : Dev nD,
      r.2.mem ((c : Thread nD τ).loc main_v0) = total m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun _ h c => ⟨(h c).1.trans ((dats m 0 c).arrAt_eq_of_cover 3 (total m c) (fun t _ => flushed_eq m c t) cover), (h c).2⟩)
    (Value.run_blocks m ρ)

end Cert.KernelIdeal.Sums

end
-- ==== Proof.RefValue.lean ====
/-
  The reference's result array is `posSum` of its arguments. Its two lookups are gathers at the positions 0, 1, 2, …,
  behind a wrap of negative positions and a mask of positions past the table's end: every position is a small natural, so
  the wrap keeps it, the mask lets it through, and the gather reads the row of that number.
-/
module

public import proofs.«01_k».proof.Proof.Spec
public import proofs.«01_k».proof.Proof.Gen.ReferenceIdeal.Run
public import Idealize.ShloMosaic.Lib.ReduceAll
public import Idealize.ShloMosaic.Lib.Pipeline.Value

@[expose] public section

noncomputable section

namespace Cert.ReferenceIdeal.Sums

open Cert.ReferenceIdeal Cert.ReferenceIdeal.Gen Cert.Embedding
open Idealize.ShloMosaic Idealize.ShloMosaic.TcCoe Idealize.ShloMosaic.ValueIdx Idealize.SL.Sem

variable {F : FTy → Type} [FloatOps F]

/-- Position `n`, wrapped by `k` if negative, as a word. -/
abbrev wrapped (k : BitVec 32) (n : Nat) : BitVec 32 :=
  Scalar.select (IntOp.cmpi .slt (BitVec.ofNat 32 n) 0#32) (IntOp.addi (BitVec.ofNat 32 n) k) (BitVec.ofNat 32 n)

/-- A word position below 50 is kept by the wrap, passes both bounds, and reads as itself. -/
theorem word_pos : ∀ n : Fin 50, (wrapped 50#32 n.val).toInt.toNat = n.val
    ∧ IntOp.andi (IntOp.cmpi .sge (wrapped 50#32 n.val) 0#32) (IntOp.cmpi .sle (wrapped 50#32 n.val) 49#32) = 1#1 := by
  decide +kernel

/-- A time position below 200 likewise, in a table of 500 rows. -/
theorem time_pos : ∀ n : Fin 200, (wrapped 500#32 n.val).toInt.toNat = n.val
    ∧ IntOp.andi (IntOp.cmpi .sge (wrapped 500#32 n.val) 0#32) (IntOp.cmpi .sle (wrapped 500#32 n.val) 499#32) = 1#1 := by
  decide +kernel

/-- The gather of word rows, read at `(b, w, h)`: column `h` of the row that start index `(b, w)` names, clamped to the table. -/
theorem gather_word {α : Type} (x : S50x128.Idx → α) (idx : IVec S32x50x1 32) (j : S32x50x128.Idx) (r : Fin 50)
    (hr : (idx (ix3 (j 0) (j 1) 0)).toInt.toNat = r.val) :
    Host.gather gather_S50x128_S32x50x1_S32x50x128_2_0_n_n_0_2_1128 x idx j = x (ix2 r (j 2)) := by
  refine congrArg x (Shape.idx_ext₂ ?_ ?_)
  · have e : (gather_S50x128_S32x50x1_S32x50x128_2_0_n_n_0_2_1128).siIdx j ⟨0, Nat.one_pos⟩ = ix3 (j 0) (j 1) 0 := by
      funext b; match b with | ⟨0, _⟩ => rfl | ⟨1, _⟩ => rfl | ⟨2, _⟩ => rfl
    have h := r.isLt
    have e' := (congrArg (fun k => (idx k).toInt.toNat) e).trans hr
    show min (idx ((gather_S50x128_S32x50x1_S32x50x128_2_0_n_n_0_2_1128).siIdx j ⟨0, Nat.one_pos⟩)).toInt.toNat (50 - 1) + 0 + 0 = r.val
    dsimp only at e'
    rw [e']; omega
  · show 0 + 0 + (j 2).val = (j 2).val
    omega

/-- The gather of time rows, read at `(t, h)`. -/
theorem gather_time {α : Type} (x : S500x128.Idx → α) (idx : IVec S200x1 32) (j : S200x128.Idx) (r : Fin 500)
    (hr : (idx (ix2 (j 0) 0)).toInt.toNat = r.val) :
    Host.gather gather_S500x128_S200x1_S200x128_1_0_n_n_0_1_1128 x idx j = x (ix2 r (j 1)) := by
  refine congrArg x (Shape.idx_ext₂ ?_ ?_)
  · have e : (gather_S500x128_S200x1_S200x128_1_0_n_n_0_1_1128).siIdx j ⟨0, Nat.one_pos⟩ = ix2 (j 0) 0 := by
      funext b; match b with | ⟨0, _⟩ => rfl | ⟨1, _⟩ => rfl
    have h := r.isLt
    have e' := (congrArg (fun k => (idx k).toInt.toNat) e).trans hr
    show min (idx ((gather_S500x128_S200x1_S200x128_1_0_n_n_0_1_1128).siIdx j ⟨0, Nat.one_pos⟩)).toInt.toNat (500 - 1) + 0 + 0 = r.val
    dsimp only at e'
    rw [e']; omega
  · show 0 + 0 + (j 1).val = (j 1).val
    omega

variable (m : (ℓ : Loc nD τ sig) → Buf (Elt F) ℓ)

/-- A masked lookup whose mask bit is one is the looked-up element. -/
theorem select_of_one {α : Type} {b : BitVec 1} (hb : b = 1#1) (x y : α) : Scalar.select b x y = x := by
  subst hb; rfl

/-- The reference's result is `posSum` of its arguments. -/
theorem result_eq (c : Dev nD) : Value.res_out0 m c
    = posSum (m ((c.tc : Thread nD τ).loc main_arg0)) (m ((c.tc : Thread nD τ).loc main_arg1)) (m ((c.tc : Thread nD τ).loc main_arg2)) := by
  funext i
  unfold Value.res_out0 Value.res_main_v11
  refine congrArg₂ FloatOps.addf (congrArg₂ FloatOps.addf rfl ?_) ?_
  · refine (select_of_one (Host.reduce_andi_one _ _ _ _ _ rfl fun k => ?_) _ _).trans (gather_word _ _ _ (i 1) ?_)
    · exact (word_pos (k 1)).2
    · exact (word_pos (i 1)).1
  · refine (select_of_one (Host.reduce_andi_one _ _ _ _ _ rfl fun k => ?_) _ _).trans
      (gather_time _ _ _ ⟨(i 2).val, Nat.lt_of_lt_of_le (i 2).isLt (show 200 ≤ 500 by decide)⟩ ?_)
    · exact (time_pos (k 0)).2
    · exact (time_pos (i 2)).1

end Cert.ReferenceIdeal.Sums

end
-- ==== Proof.lean ====
/-
  The certificate's assembly. The frames of the kernel and of its idealization are the generated ones; the reference's is its
  run read at the arguments; the ideal program has no rewrite to justify; and kernel and reference both end at `posSum` of
  the arguments (Proof/KernelValue.lean, Proof/RefValue.lean).
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Lib.Quiescent

@[expose] public section

noncomputable section

namespace Cert.Proof

open Idealize.ShloMosaic Idealize.SL.Sem

/-- The kernel's frame, over words. -/
theorem frame_kernel : Cert.quiescent_Kernel := fun m ρ _ => Cert.Kernel.Gen.frame m ρ

/-- The ideal kernel's frame. -/
theorem frame_ideal : Cert.quiescent_KernelIdeal := fun m ρ _ => Cert.KernelIdeal.Gen.frame m ρ

/-- The reference's frame: its run keeps the arguments, and it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference end at the same array: `posSum` of arguments that agree. -/
theorem algebraic : Cert.algebraic_KernelIdeal_ReferenceIdeal := by
  intro m ρ m' ρ' _ hagree
  refine ⟨fun c => Cert.KernelIdeal.Sums.total m c, Cert.KernelIdeal.Sums.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Sums.result_eq m' c).trans ?_
  rw [(hagree c).1, (hagree c).2.1, (hagree c).2.2]

/-- Everything that the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
